-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S4096x10000 : Shape := ⟨2, ![4096, 10000]⟩
abbrev S102x3 : Shape := ⟨2, ![102, 3]⟩
abbrev S9x3 : Shape := ⟨2, ![9, 3]⟩
abbrev S100001x3 : Shape := ⟨2, ![100001, 3]⟩
abbrev S10000x1 : Shape := ⟨2, ![10000, 1]⟩
abbrev S10x3 : Shape := ⟨2, ![10, 3]⟩
abbrev S10 : Shape := ⟨1, ![10]⟩
abbrev S1x10 : Shape := ⟨2, ![1, 10]⟩
abbrev S1 : Shape := ⟨1, ![1]⟩
abbrev S10000x4096 : Shape := ⟨2, ![10000, 4096]⟩
abbrev S1x10000 : Shape := ⟨2, ![1, 10000]⟩
abbrev S1x4096 : Shape := ⟨2, ![1, 4096]⟩
abbrev S1000x1024 : Shape := ⟨2, ![1000, 1024]⟩
abbrev S1000x1 : Shape := ⟨2, ![1000, 1]⟩
abbrev S1024 : Shape := ⟨1, ![1024]⟩
abbrev S1x1024 : Shape := ⟨2, ![1, 1024]⟩
abbrev S4096x1 : Shape := ⟨2, ![4096, 1]⟩

abbrev nBuf : Space → Nat
  | .hbm => 18
  | .vmem => 12
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S4096x200, .i32⟩
  | .hbm, ⟨3, _⟩ => ⟨S4096x10000, .f32⟩
  | .hbm, ⟨4, _⟩ => ⟨S102x3, .f32⟩
  | .hbm, ⟨5, _⟩ => ⟨S9x3, .f32⟩
  | .hbm, ⟨6, _⟩ => ⟨S100001x3, .f32⟩
  | .hbm, ⟨7, _⟩ => ⟨S10000x1, .f32⟩
  | .hbm, ⟨8, _⟩ => ⟨S10x3, .f32⟩
  | .hbm, ⟨9, _⟩ => ⟨S10, .f32⟩
  | .hbm, ⟨10, _⟩ => ⟨S1x10, .f32⟩
  | .hbm, ⟨11, _⟩ => ⟨S1, .f32⟩
  | .hbm, ⟨12, _⟩ => ⟨S10000x4096, .f32⟩
  | .hbm, ⟨13, _⟩ => ⟨S1x10000, .f32⟩
  | .hbm, ⟨14, _⟩ => ⟨S1x4096, .f32⟩
  | .hbm, ⟨15, _⟩ => ⟨S1x4096, .f32⟩
  | .hbm, ⟨16, _⟩ => ⟨S4096x1, .f32⟩
  | .hbm, ⟨17, _⟩ => ⟨S4096x1, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1000x1024, .f32⟩
  | .local _ .vmem, ⟨8, _⟩ => ⟨S1x10000, .f32⟩
  | .local _ .vmem, ⟨9, _⟩ => ⟨S1x4096, .f32⟩
  | .local _ .vmem, ⟨10, _⟩ => ⟨S1x4096, .f32⟩
  | .local _ .vmem, ⟨11, _⟩ => ⟨S10000x1, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let c1000_i32 : BitVec 32 := 1000#32
  let v3 : BitVec 32 := Scalar.muli arg0 c1000_i32
  let v4 : Index := Scalar.indexCast v3
  let c0 : Index := 0#32
  ![v4.toNat, 0]
def k0_cond2 (i : grid0.Coords) : BitVec 1 :=
  let arg0 : BitVec 32 := BitVec.ofNat 32 (i 0).val
  let c0_i32_3 : BitVec 32 := 0#32
  let v12 : BitVec 1 := Scalar.cmpi .eq arg0 c0_i32_3
  let v13 : BitVec 32 := Scalar.extui v12
  let c0_i32_4 : BitVec 32 := 0#32
  let v14 : BitVec 1 := Scalar.cmpi .ne v13 c0_i32_4
  v14

def k0_cond3 (i : grid0.Coords) : BitVec 1 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .ne v16 c0_i32_6
  v17

def k0_cond4 (i : grid0.Coords) : BitVec 1 :=
  let arg0 : BitVec 32 := BitVec.ofNat 32 (i 0).val
  let c0_i32_10 : BitVec 32 := 0#32
  let v24 : BitVec 1 := Scalar.cmpi .eq arg0 c0_i32_10
  let v25 : BitVec 32 := Scalar.extui v24
  let c0_i32_11 : BitVec 32 := 0#32
  let v26 : BitVec 1 := Scalar.cmpi .ne v25 c0_i32_11
  v26

def k0_cond5 (i : grid0.Coords) : BitVec 1 :=
  let arg0 : BitVec 32 := BitVec.ofNat 32 (i 0).val
  let c0_i32_12 : BitVec 32 := 0#32
  let v27 : BitVec 1 := Scalar.cmpi .sgt arg0 c0_i32_12
  let v28 : BitVec 32 := Scalar.extui v27
  let c0_i32_13 : BitVec 32 := 0#32
  let v29 : BitVec 1 := Scalar.cmpi .ne v28 c0_i32_13
  v29

def k0_cond6 (i : grid0.Coords) : BitVec 1 :=
  let arg0 : BitVec 32 := BitVec.ofNat 32 (i 0).val
  let c0_i32_17 : BitVec 32 := 0#32
  let v36 : BitVec 1 := Scalar.cmpi .eq arg0 c0_i32_17
  let v37 : BitVec 32 := Scalar.extui v36
  let c0_i32_18 : BitVec 32 := 0#32
  let v38 : BitVec 1 := Scalar.cmpi .ne v37 c0_i32_18
  v38

def k0_cond7 (i : grid0.Coords) : BitVec 1 :=
  let arg0 : BitVec 32 := BitVec.ofNat 32 (i 0).val
  let c0_i32_19 : BitVec 32 := 0#32
  let v39 : BitVec 1 := Scalar.cmpi .sgt arg0 c0_i32_19
  let v40 : BitVec 32 := Scalar.extui v39
  let c0_i32_20 : BitVec 32 := 0#32
  let v41 : BitVec 1 := Scalar.cmpi .ne v40 c0_i32_20
  v41

def k0_cond8 (i : grid0.Coords) : BitVec 1 :=
  let arg0 : BitVec 32 := BitVec.ofNat 32 (i 0).val
  let c0_i32_24 : BitVec 32 := 0#32
  let v48 : BitVec 1 := Scalar.cmpi .eq arg0 c0_i32_24
  let v49 : BitVec 32 := Scalar.extui v48
  let c0_i32_25 : BitVec 32 := 0#32
  let v50 : BitVec 1 := Scalar.cmpi .ne v49 c0_i32_25
  v50

def k0_cond9 (i : grid0.Coords) : BitVec 1 :=
  let arg0 : BitVec 32 := BitVec.ofNat 32 (i 0).val
  let c0_i32_26 : BitVec 32 := 0#32
  let v51 : BitVec 1 := Scalar.cmpi .sgt arg0 c0_i32_26
  let v52 : BitVec 32 := Scalar.extui v51
  let c0_i32_27 : BitVec 32 := 0#32
  let v53 : BitVec 1 := Scalar.cmpi .ne v52 c0_i32_27
  v53

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x200 : Shape := ⟨2, ![4096, 200]⟩
abbrev S4096x10000 : Shape := ⟨2, ![4096, 10000]⟩
abbrev S102x3 : Shape := ⟨2, ![102, 3]⟩
abbrev S9x3 : Shape := ⟨2, ![9, 3]⟩
abbrev S100001x3 : Shape := ⟨2, ![100001, 3]⟩
abbrev S10000x1 : Shape := ⟨2, ![10000, 1]⟩
abbrev S10x3 : Shape := ⟨2, ![10, 3]⟩
abbrev S10 : Shape := ⟨1, ![10]⟩
abbrev S1x10 : Shape := ⟨2, ![1, 10]⟩
abbrev S1 : Shape := ⟨1, ![1]⟩
abbrev S4096x1 : Shape := ⟨2, ![4096, 1]⟩
abbrev S_ : Shape := ⟨0, ![]⟩
abbrev S4096x200x1 : Shape := ⟨3, ![4096, 200, 1]⟩
abbrev S1x1x1 : Shape := ⟨3, ![1, 1, 1]⟩
abbrev S4096x200x3 : Shape := ⟨3, ![4096, 200, 3]⟩
abbrev S3x10 : Shape := ⟨2, ![3, 10]⟩
abbrev S4096x200x10 : Shape := ⟨3, ![4096, 200, 10]⟩
abbrev S1x1x10 : Shape := ⟨3, ![1, 1, 10]⟩
abbrev S4096x10 : Shape := ⟨2, ![4096, 10]⟩
abbrev S10x1 : Shape := ⟨2, ![10, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S4096x200, .i32⟩
  | .hbm, ⟨3, _⟩ => ⟨S4096x10000, .f32⟩
  | .hbm, ⟨4, _⟩ => ⟨S102x3, .f32⟩
  | .hbm, ⟨5, _⟩ => ⟨S9x3, .f32⟩
  | .hbm, ⟨6, _⟩ => ⟨S100001x3, .f32⟩
  | .hbm, ⟨7, _⟩ => ⟨S10000x1, .f32⟩
  | .hbm, ⟨8, _⟩ => ⟨S10x3, .f32⟩
  | .hbm, ⟨9, _⟩ => ⟨S10, .f32⟩
  | .hbm, ⟨10, _⟩ => ⟨S1x10, .f32⟩
  | .hbm, ⟨11, _⟩ => ⟨S1, .f32⟩
  | .hbm, ⟨12, _⟩ => ⟨S4096x1, .f32⟩
  | .hbm, ⟨13, _⟩ => ⟨S_, .i32⟩
  | .hbm, ⟨14, _⟩ => ⟨S4096x200, .i32⟩
  | .hbm, ⟨15, _⟩ => ⟨S4096x200, .i1⟩
  | .hbm, ⟨16, _⟩ => ⟨S_, .i32⟩
  | .hbm, ⟨17, _⟩ => ⟨S4096x200, .i32⟩
  | .hbm, ⟨18, _⟩ => ⟨S4096x200, .i32⟩
  | .hbm, ⟨19, _⟩ => ⟨S4096x200, .i32⟩
  | .hbm, ⟨20, _⟩ => ⟨S4096x200x1, .i32⟩
  | .hbm, ⟨21, _⟩ => ⟨S1, .i32⟩
  | .hbm, ⟨22, _⟩ => ⟨S_, .i32⟩
  | .hbm, ⟨23, _⟩ => ⟨S4096x200x1, .i32⟩
  | .hbm, ⟨24, _⟩ => ⟨S4096x200x1, .i1⟩
  | .hbm, ⟨25, _⟩ => ⟨S1x1x1, .i32⟩
  | .hbm, ⟨26, _⟩ => ⟨S4096x200x1, .i32⟩
  | .hbm, ⟨27, _⟩ => ⟨S4096x200x1, .i1⟩
  | .hbm, ⟨28, _⟩ => ⟨S4096x200x1, .i1⟩
  | .hbm, ⟨29, _⟩ => ⟨S_, .i1⟩
  | .hbm, ⟨30, _⟩ => ⟨S4096x200, .i1⟩
  | .hbm, ⟨31, _⟩ => ⟨S4096x200x3, .f32⟩
  | .hbm, ⟨32, _⟩ => ⟨S4096x200x3, .i1⟩
  | .hbm, ⟨33, _⟩ => ⟨S_, .f32⟩
  | .hbm, ⟨34, _⟩ => ⟨S4096x200x3, .f32⟩
  | .hbm, ⟨35, _⟩ => ⟨S4096x200x3, .f32⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S_, .i32⟩
  | .hbm, ⟨40, _⟩ => ⟨S4096x200, .i32⟩
  | .hbm, ⟨41, _⟩ => ⟨S4096x200, .i32⟩
  | .hbm, ⟨42, _⟩ => ⟨S4096x200, .i32⟩
  | .hbm, ⟨43, _⟩ => ⟨S4096x200x1, .i32⟩
  | .hbm, ⟨44, _⟩ => ⟨S1, .i32⟩
  | .hbm, ⟨45, _⟩ => ⟨S_, .i32⟩
  | .hbm, ⟨46, _⟩ => ⟨S4096x200x1, .i32⟩
  | .hbm, ⟨47, _⟩ => ⟨S4096x200x1, .i1⟩
  | .hbm, ⟨48, _⟩ => ⟨S1x1x1, .i32⟩
  | .hbm, ⟨49, _⟩ => ⟨S4096x200x1, .i32⟩
  | .hbm, ⟨50, _⟩ => ⟨S4096x200x1, .i1⟩
  | .hbm, ⟨51, _⟩ => ⟨S4096x200x1, .i1⟩
  | .hbm, ⟨52, _⟩ => ⟨S_, .i1⟩
  | .hbm, ⟨53, _⟩ => ⟨S4096x200, .i1⟩
  | .hbm, ⟨54, _⟩ => ⟨S4096x200x3, .f32⟩
  | .hbm, ⟨55, _⟩ => ⟨S4096x200x3, .i1⟩
  | .hbm, ⟨56, _⟩ => ⟨S_, .f32⟩
  | .hbm, ⟨57, _⟩ => ⟨S4096x200x3, .f32⟩
  | .hbm, ⟨58, _⟩ => ⟨S4096x200x3, .f32⟩
  | .hbm, ⟨59, _⟩ => ⟨S4096x200x3, .f32⟩
  | .hbm, ⟨60, _⟩ => ⟨S_, .i32⟩
  | .hbm, ⟨61, _⟩ => ⟨S4096x200, .i32⟩
  | .hbm, ⟨62, _⟩ => ⟨S4096x200, .i1⟩
  | .hbm, ⟨63, _⟩ => ⟨S_, .i32⟩
  | .hbm, ⟨64, _⟩ => ⟨S4096x200, .i32⟩
  | .hbm, ⟨65, _⟩ => ⟨S4096x200, .i32⟩
  | .hbm, ⟨66, _⟩ => ⟨S4096x200, .i32⟩
  | .hbm, ⟨67, _⟩ => ⟨S4096x200x1, .i32⟩
  | .hbm, ⟨68, _⟩ => ⟨S1, .i32⟩
  | .hbm, ⟨69, _⟩ => ⟨S_, .i32⟩
  | .hbm, ⟨70, _⟩ => ⟨S4096x200x1, .i32⟩
  | .hbm, ⟨71, _⟩ => ⟨S4096x200x1, .i1⟩
  | .hbm, ⟨72, _⟩ => ⟨S1x1x1, .i32⟩
  | .hbm, ⟨73, _⟩ => ⟨S4096x200x1, .i32⟩
  | .hbm, ⟨74, _⟩ => ⟨S4096x200x1, .i1⟩
  | .hbm, ⟨75, _⟩ => ⟨S4096x200x1, .i1⟩
  | .hbm, ⟨76, _⟩ => ⟨S_, .i1⟩
  | .hbm, ⟨77, _⟩ => ⟨S4096x200, .i1⟩
  | .hbm, ⟨78, _⟩ => ⟨S4096x200x3, .f32⟩
  | .hbm, ⟨79, _⟩ => ⟨S4096x200x3, .i1⟩
  | .hbm, ⟨80, _⟩ => ⟨S_, .f32⟩
  | .hbm, ⟨81, _⟩ => ⟨S4096x200x3, .f32⟩
  | .hbm, ⟨82, _⟩ => ⟨S4096x200x3, .f32⟩
  | .hbm, ⟨83, _⟩ => ⟨S4096x200x3, .f32⟩
  | .hbm, ⟨84, _⟩ => ⟨S_, .f32⟩
  | .hbm, ⟨85, _⟩ => ⟨S4096x200x3, .f32⟩
  | .hbm, ⟨86, _⟩ => ⟨S4096x200x3, .f32⟩
  | .hbm, ⟨87, _⟩ => ⟨S3x10, .f32⟩
  | .hbm, ⟨88, _⟩ => ⟨S4096x200x10, .f32⟩
  | .hbm, ⟨89, _⟩ => ⟨S1x1x10, .f32⟩
  | .hbm, ⟨90, _⟩ => ⟨S4096x200x10, .f32⟩
  | .hbm, ⟨91, _⟩ => ⟨S4096x200x10, .f32⟩
  | .hbm, ⟨92, _⟩ => ⟨S_, .f32⟩
  | .hbm, ⟨93, _⟩ => ⟨S4096x200x10, .f32⟩
  | .hbm, ⟨94, _⟩ => ⟨S4096x200x10, .f32⟩
  | .hbm, ⟨95, _⟩ => ⟨S_, .i32⟩
  | .hbm, ⟨96, _⟩ => ⟨S4096x200, .i32⟩
  | .hbm, ⟨97, _⟩ => ⟨S4096x200, .i1⟩
  | .hbm, ⟨98, _⟩ => ⟨S4096x200, .f32⟩
  | .hbm, ⟨99, _⟩ => ⟨S4096x200x1, .f32⟩
  | .hbm, ⟨100, _⟩ => ⟨S4096x200x10, .f32⟩
  | .hbm, ⟨101, _⟩ => ⟨S4096x200x10, .f32⟩
  | .hbm, ⟨102, _⟩ => ⟨S_, .f32⟩
  | .hbm, ⟨103, _⟩ => ⟨S4096x10, .f32⟩
  | .hbm, ⟨104, _⟩ => ⟨S_, .f32⟩
  | .hbm, ⟨105, _⟩ => ⟨S4096x1, .f32⟩
  | .hbm, ⟨106, _⟩ => ⟨S4096x10, .f32⟩
  | .hbm, ⟨107, _⟩ => ⟨S4096x10, .f32⟩
  | .hbm, ⟨108, _⟩ => ⟨S10x1, .f32⟩
  | .hbm, ⟨109, _⟩ => ⟨S4096x1, .f32⟩
  | .hbm, ⟨110, _⟩ => ⟨S1x1, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096x1, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v2 : Ref sig .tc := ⟨.hbm, 58, rfl⟩
abbrev main_v3 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v4 : Ref sig .tc := ⟨.hbm, 82, rfl⟩
abbrev main_v5 : Ref sig .tc := ⟨.hbm, 83, rfl⟩
abbrev main_call3_cst : Ref sig .tc := ⟨.hbm, 84, rfl⟩
abbrev main_call3_v0 : Ref sig .tc := ⟨.hbm, 85, rfl⟩
abbrev main_v6 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_call4_cst : Ref sig .tc := ⟨.hbm, 92, rfl⟩
abbrev main_call4_v0 : Ref sig .tc := ⟨.hbm, 93, rfl⟩
abbrev main_v12 : Ref sig .tc := ⟨.hbm, 94, rfl⟩
abbrev main_c : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_cst : Ref sig .tc := ⟨.hbm, 102, rfl⟩
abbrev main_v19 : Ref sig .tc := ⟨.hbm, 103, rfl⟩
abbrev main_cst_0 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_cst_1 : Ref sig .tc := ⟨.hbm, 113, rfl⟩
abbrev main_v28 : Ref sig .tc := ⟨.hbm, 114, rfl⟩

abbrev nD : Nat := 1
abbrev τ : Topo := Topo.v7x

variable {F : FTy → Type} [FloatOps F]
-- ==== Proof.Body.lean ====
/-
  The kernel body at one grid point, with the exact contents it leaves. At the first point it transposes the
  score row into the scratch column, clears the second result's row, and stores the four partial products; at
  every later point it adds four partial products to the row the point before left, and touches nothing else.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.MatVec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A row of 4096 columns assembled from four rows of 1024. -/
def assemble (p : Fin 4 → Vec F S1x1024 .f32) : Vec F S1x4096 .f32 :=
  fun y => p ⟨(y 1).val / 1024, Nat.div_lt_of_lt_mul (y 1).isLt⟩ (ix2 (n0 := 1) (n1 := 1024) 0 ⟨(y 1).val % 1024, Nat.mod_lt _ (Nat.succ_pos _)⟩)

/-- The 1000 entries of the scratch column that the point with grid coordinates `i` multiplies by. -/
def segment (i : grid0.Coords) (s : Vec F S10000x1 .f32) : Vec F S1000x1 .f32 :=
  View.ld (Val := Elt F) (e' := .f32) s (Rect.unit (s := S10000x1) (k0_off1 i) S1000x1.size (k0_off1_inb i))

/-- The partial product of one point: each of the four blocks times the segment, summed over its 1000 rows. -/
def partRow (i : grid0.Coords) (s : Vec F S10000x1 .f32) (x : Fin 4 → Vec F S1000x1024 .f32) : Vec F S1x4096 .f32 :=
  assemble fun k => k0_pay7 (segment i s) (x k)

/-- The assembled row read through the `k`-th quarter is the `k`-th of the four rows. -/
theorem assemble_emb (p : Fin 4 → Vec F S1x1024 .f32) (k : Fin 4) (off : Fin 2 → ℕ) (hoff : off = ![0, 1024 * k.val])
    (inb : ∀ a, off a + S1x1024.size a ≤ S1x4096.size a) (x : S1x1024.Idx) :
    assemble p ((Rect.unit (s := S1x4096) off S1x1024.size inb).emb x) = p k x := by
  subst hoff
  have h1 : (x 1).val < 1024 := (x 1).isLt
  have h0 : (x 0).val < 1 := (x 0).isLt
  have e : ((Rect.unit (s := S1x4096) ![0, 1024 * k.val] S1x1024.size inb).emb x 1).val = 1024 * k.val + 1 * (x 1).val := rfl
  have hk : (⟨((Rect.unit (s := S1x4096) ![0, 1024 * k.val] S1x1024.size inb).emb x 1).val / 1024, Nat.div_lt_of_lt_mul (Fin.isLt _)⟩ : Fin 4) = k :=
    Fin.ext (by simp only [e]; omega)
  have hx : ix2 (n0 := 1) (n1 := 1024) 0 ⟨((Rect.unit (s := S1x4096) ![0, 1024 * k.val] S1x1024.size inb).emb x 1).val % 1024, Nat.mod_lt _ (Nat.succ_pos _)⟩ = x := by
    refine Eq.trans ?_ (eq_ix2 (n0 := 1) (n1 := 1024) x).symm
    exact (ix2_inj _ _ _ _).mpr ⟨Fin.ext (by simp only [Fin.val_zero]; omega), Fin.ext (by simp only [e]; omega)⟩
  unfold assemble
  rw [hk, hx]

/-- Four stores, one into each quarter of a row, each agreeing with `G` on its quarter, leave the row at `G`. -/
theorem read_quarters (v : View sig .tc .vmem S1x4096 .f32) (f : v.ty.Contents (Elt F)) (G : Vec F S1x4096 .f32) (w0 w1 w2 w3 : Vec F S1x1024 .f32)
    (h0 : ∀ x, w0 x = G ((Rect.unit (s := S1x4096) ![0, 0] S1x1024.size inb_S1x4096_S1x1024_0_0).emb x))
    (h1 : ∀ x, w1 x = G ((Rect.unit (s := S1x4096) ![0, 1024] S1x1024.size inb_S1x4096_S1x1024_0_1024).emb x))
    (h2 : ∀ x, w2 x = G ((Rect.unit (s := S1x4096) ![0, 2048] S1x1024.size inb_S1x4096_S1x1024_0_2048).emb x))
    (h3 : ∀ x, w3 x = G ((Rect.unit (s := S1x4096) ![0, 3072] S1x1024.size inb_S1x4096_S1x1024_0_3072).emb x)) :
    v.read (Elt F) (v.writes (Elt F) f
      [⟨Rect.unit (s := S1x4096) ![0, 3072] S1x1024.size inb_S1x4096_S1x1024_0_3072, w3⟩, ⟨Rect.unit (s := S1x4096) ![0, 2048] S1x1024.size inb_S1x4096_S1x1024_0_2048, w2⟩,
       ⟨Rect.unit (s := S1x4096) ![0, 1024] S1x1024.size inb_S1x4096_S1x1024_0_1024, w1⟩, ⟨Rect.unit (s := S1x4096) ![0, 0] S1x1024.size inb_S1x4096_S1x1024_0_0, w0⟩]) = G := by
  funext y
  refine View.read_writes_apply_of_pieces _ _ G _ ?_ y (View.cover_of_tiledL (s := S1x4096) _ S1x1024.size (by sl_kernel_rfl) y)
  intro p hp
  simp only [List.mem_cons, List.not_mem_nil, or_false] at hp
  rcases hp with rfl | rfl | rfl | rfl
  · exact h3
  · exact h2
  · exact h1
  · exact h0

/-- The `k`-th quarter of the partial product, from the loads that make it. -/
theorem part_quarter (k : Fin 4) {off : Fin 2 → ℕ} (hoff : off = ![0, 1024 * k.val]) (inb : ∀ a, off a + S1x1024.size a ≤ S1x4096.size a)
    (i : grid0.Coords) (s : Vec F S10000x1 .f32) (x : Fin 4 → Vec F S1000x1024 .f32) {a : Vec F S1000x1 .f32} {b : Vec F S1000x1024 .f32}
    (ha : a = segment i s) (hb : b = x k) (y : S1x1024.Idx) :
    k0_pay7 a b y = partRow i s x ((Rect.unit (s := S1x4096) off S1x1024.size inb).emb y) := by
  subst ha hb
  exact (assemble_emb (fun k => k0_pay7 (segment i s) (x k)) k off hoff inb y).symm

/-- The `k`-th quarter of a row with the partial product added, from the loads that make it. -/
theorem sum_quarter (k : Fin 4) {off : Fin 2 → ℕ} (hoff : off = ![0, 1024 * k.val]) (inb : ∀ a, off a + S1x1024.size a ≤ S1x4096.size a)
    (i : grid0.Coords) (s : Vec F S10000x1 .f32) (x : Fin 4 → Vec F S1000x1024 .f32) (xo : Vec F S1x4096 .f32) {a : Vec F S1000x1 .f32}
    {b : Vec F S1000x1024 .f32} {v : Vec F S1x1024 .f32} (ha : a = segment i s) (hb : b = x k)
    (hv : v = View.ld (Val := Elt F) (e' := .f32) xo (Rect.unit (s := S1x4096) off S1x1024.size inb)) (y : S1x1024.Idx) :
    k0_pay8 a b v y = addf xo (partRow i s x) ((Rect.unit (s := S1x4096) off S1x1024.size inb).emb y) := by
  subst hv
  unfold k0_pay8
  rw [shapeCast_self]
  exact congrArg (FloatOps.addf (xo ((Rect.unit (s := S1x4096) off S1x1024.size inb).emb y))) (part_quarter k hoff inb i s x ha hb y)

set_option maxHeartbeats 1000000 in
/-- THE FIRST POINT. From any contents of the two result rows and of the scratch, the body ends with the scratch
    at the transposed score row, the first result's row at the point's partial product over it and the second
    result's row at zeros. -/
theorem body_first (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .vmem S1000x1024 .f32) (harg3 : arg3.IsWhole) (arg4 : Memref sig .tc .vmem S1000x1024 .f32) (harg4 : arg4.IsWhole) (arg5 : Memref sig .tc .vmem S1x10000 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S10000x1 .f32) (harg8 : arg8.IsWhole)
    (hc0 : k0_cond1 i = 1#1) (hc1 : k0_cond2 i = 1#1) (hc2 : ¬k0_cond3 i = 1#1) (hc3 : k0_cond4 i = 1#1) (hc4 : ¬k0_cond5 i = 1#1) (hc5 : k0_cond6 i = 1#1) (hc6 : ¬k0_cond7 i = 1#1) (hc7 : k0_cond8 i = 1#1) (hc8 : ¬k0_cond9 i = 1#1)
    (x : Fin 4 → Vec F S1000x1024 .f32) (x4 : Vec F S1x10000 .f32) (E : Set ℕ) (K : PUnit → sProp 𝕄) :
    iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare x4 ∗ owns (c : Thread nD τ) arg6 fullShare (partRow i (k0_pay5 x4) x) ∗ owns (c : Thread nD τ) arg7 fullShare (k0_pay6 (F := F)) ∗ owns (c : Thread nD τ) arg8 fullShare (k0_pay5 x4)) -∗ K ⟨⟩))
      ⊢ wp frame (wpE (defs₀ (F := F)) Variants.none c none) E (cc0__mv_cols i arg1 harg1 arg2 harg2 arg3 harg3 arg4 harg4 arg5 harg5 arg6 harg6 arg7 harg7 arg8 harg8) K := by
  simp only [cc0__mv_cols_eq_skeleton]; unfold cc0__mv_cols_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2 | sl_exact hc3 | sl_exact hc4 | sl_exact hc5 | sl_exact hc6 | sl_exact hc7 | sl_exact hc8)
  sl_step
  have hb : ∀ (a : Memref sig .tc .vmem S1000x1024 .f32) (h : a.IsWhole) (X : Vec F S1000x1024 .f32),
      View.readAt (Elt F) a.view (Rect.unit (s := S1000x1024) ![0, 0] S1000x1024.size inb_S1000x1024_S1000x1024_0_0).toLoadRect (h.unread X) = X :=
    fun a h X => (View.readAt_full _ _ _).trans (h.read_unread X)
  have hs : View.read (Elt F) arg8.view (arg8.view.writes (Elt F) arg8.view.junk [⟨Rect.unit (s := S10000x1) ![0, 0] S10000x1.size inb_S10000x1_S10000x1_0_0,
      k0_pay5 (View.readAt (Elt F) arg5.view (Rect.unit (s := S1x10000) ![0, 0] S1x10000.size inb_S1x10000_S1x10000_0_0).toLoadRect (harg5.unread x4))⟩]) = k0_pay5 x4 := by
    rw [View.readAt_full, harg5.read_unread]
    exact View.read_writes_full _ _ _ _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine read_quarters _ _ _ _ _ _ _ (fun y => ?_) (fun y => ?_) (fun y => ?_) (fun y => ?_)
    · exact part_quarter 0 rfl _ i _ x (congrArg (segment i) hs) (hb _ harg1 _) y
    · exact part_quarter 1 rfl _ i _ x (congrArg (segment i) hs) (hb _ harg2 _) y
    · exact part_quarter 2 rfl _ i _ x (congrArg (segment i) hs) (hb _ harg3 _) y
    · exact part_quarter 3 rfl _ i _ x (congrArg (segment i) hs) (hb _ harg4 _) y
  isplitl [H6]
  · iexists _; isplitr
    swap; · iexact H6
    ipureintro
    sl_unfold_words
    exact View.read_writes_full _ _ _ _ _
  iexists _; isplitr
  swap; · iexact HS0
  ipureintro
  sl_unfold_words
  exact hs

set_option maxHeartbeats 1000000 in
/-- A LATER POINT. With the first result's row at `xo` and the scratch at `s`, the body ends with the row at `xo`
    plus the point's partial product; the second result's row and the scratch are left as they were. -/
theorem body_later (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .vmem S1000x1024 .f32) (harg3 : arg3.IsWhole) (arg4 : Memref sig .tc .vmem S1000x1024 .f32) (harg4 : arg4.IsWhole) (arg5 : Memref sig .tc .vmem S1x10000 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S10000x1 .f32) (harg8 : arg8.IsWhole)
    (hc0 : ¬k0_cond1 i = 1#1) (hc1 : ¬k0_cond2 i = 1#1) (hc2 : k0_cond3 i = 1#1) (hc3 : ¬k0_cond4 i = 1#1) (hc4 : k0_cond5 i = 1#1) (hc5 : ¬k0_cond6 i = 1#1) (hc6 : k0_cond7 i = 1#1) (hc7 : ¬k0_cond8 i = 1#1) (hc8 : k0_cond9 i = 1#1)
    (x : Fin 4 → Vec F S1000x1024 .f32) (x4 : Vec F S1x10000 .f32) (xo xz : Vec F S1x4096 .f32) (s : Vec F S10000x1 .f32) (E : Set ℕ) (K : PUnit → sProp 𝕄) :
    iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare x4 ∗ owns (c : Thread nD τ) arg6 fullShare xo ∗ owns (c : Thread nD τ) arg7 fullShare xz ∗ owns (c : Thread nD τ) arg8 fullShare s
        ∗ (iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare x4 ∗ owns (c : Thread nD τ) arg6 fullShare (addf xo (partRow i s x)) ∗ owns (c : Thread nD τ) arg7 fullShare xz ∗ owns (c : Thread nD τ) arg8 fullShare s) -∗ K ⟨⟩))
      ⊢ wp frame (wpE (defs₀ (F := F)) Variants.none c none) E (cc0__mv_cols i arg1 harg1 arg2 harg2 arg3 harg3 arg4 harg4 arg5 harg5 arg6 harg6 arg7 harg7 arg8 harg8) K := by
  simp only [cc0__mv_cols_eq_skeleton]; unfold cc0__mv_cols_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  sl_exec (disch := first | sl_exact hc0 | sl_exact hc1 | sl_exact hc2 | sl_exact hc3 | sl_exact hc4 | sl_exact hc5 | sl_exact hc6 | sl_exact hc7 | sl_exact hc8)
  sl_step
  have hb : ∀ (a : Memref sig .tc .vmem S1000x1024 .f32) (h : a.IsWhole) (X : Vec F S1000x1024 .f32),
      View.readAt (Elt F) a.view (Rect.unit (s := S1000x1024) ![0, 0] S1000x1024.size inb_S1000x1024_S1000x1024_0_0).toLoadRect (h.unread X) = X :=
    fun a h X => (View.readAt_full _ _ _).trans (h.read_unread X)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine read_quarters _ _ _ _ _ _ _ (fun y => ?_) (fun y => ?_) (fun y => ?_) (fun y => ?_)
    · exact sum_quarter 0 rfl _ i s x xo (congrArg (segment i) hfs0) (hb _ harg1 _) (congrArg (fun f => View.ld (Val := Elt F) (e' := .f32) f _) hf5) y
    · exact sum_quarter 1 rfl _ i s x xo (congrArg (segment i) hfs0) (hb _ harg2 _) (congrArg (fun f => View.ld (Val := Elt F) (e' := .f32) f _) hf5) y
    · exact sum_quarter 2 rfl _ i s x xo (congrArg (segment i) hfs0) (hb _ harg3 _) (congrArg (fun f => View.ld (Val := Elt F) (e' := .f32) f _) hf5) y
    · exact sum_quarter 3 rfl _ i s x xo (congrArg (segment i) hfs0) (hb _ harg4 _) (congrArg (fun f => View.ld (Val := Elt F) (e' := .f32) f _) hf5) y
  isplitl [H6]
  · iexists _; isplitr; · ipureintro; exact harg7.read_unread _
    iexact H6
  iexists _; isplitr; · ipureintro; exact harg8.read_unread _
  iexact HS0

end Cert.KernelIdeal.MatVec

end
-- ==== Proof.Data.lean ====
/-
  The kernel's one pipeline: what every staging buffer and the scratch column hold after each of its ten points, the
  body at a generic point, and the launch — every run of @main ends with the arrays at what these contents say and
  with every semaphore counter at zero.
-/
module

public import proofs.«01_k».proof.Proof.Body
public import Idealize.ShloMosaic.Lib.Pipeline.TableIdle

@[expose] public section

set_option maxRecDepth 16384

noncomputable section

namespace Cert.KernelIdeal.MatVec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions and the windows' schedule, over the ten points -/

/-- At the first point exactly the conditions "this is the first point" hold. -/
theorem conds_first : ∀ t : Fin cfg0.N, t.val = 0 →
    k0_cond1 (grid0.coords t) = 1#1 ∧ k0_cond2 (grid0.coords t) = 1#1 ∧ ¬k0_cond3 (grid0.coords t) = 1#1 ∧ k0_cond4 (grid0.coords t) = 1#1
      ∧ ¬k0_cond5 (grid0.coords t) = 1#1 ∧ k0_cond6 (grid0.coords t) = 1#1 ∧ ¬k0_cond7 (grid0.coords t) = 1#1 ∧ k0_cond8 (grid0.coords t) = 1#1
      ∧ ¬k0_cond9 (grid0.coords t) = 1#1 := by decide +kernel

/-- At every later point exactly the other ones hold. -/
theorem conds_later : ∀ t : Fin cfg0.N, t.val ≠ 0 →
    ¬k0_cond1 (grid0.coords t) = 1#1 ∧ ¬k0_cond2 (grid0.coords t) = 1#1 ∧ k0_cond3 (grid0.coords t) = 1#1 ∧ ¬k0_cond4 (grid0.coords t) = 1#1
      ∧ k0_cond5 (grid0.coords t) = 1#1 ∧ ¬k0_cond6 (grid0.coords t) = 1#1 ∧ k0_cond7 (grid0.coords t) = 1#1 ∧ ¬k0_cond8 (grid0.coords t) = 1#1
      ∧ k0_cond9 (grid0.coords t) = 1#1 := by decide +kernel

/-- The first result's window is stored into at every point. -/
theorem live5 : ∀ t : Fin cfg0.N, cfg0.idle 5 (grid0.coords t) = false := by decide +kernel

/-- The second result's window is stored into at the first point, -/
theorem live6 : ∀ t : Fin cfg0.N, t.val = 0 → cfg0.idle 6 (grid0.coords t) = false := by decide +kernel

/-- and at no later one. -/
theorem idle6 : ∀ t : Fin cfg0.N, t.val ≠ 0 → cfg0.idle 6 (grid0.coords t) = true := by decide +kernel

/-- Whether nothing has been stored into a result's buffer since the region's start or its last write-back, position by position. -/
def freshAt : ℕ → Bool
  | 0 => true
  | n + 1 => n == 9

/-- No later point finds the first result's buffer in that state, -/
theorem notFresh5 (t : Fin cfg0.N) (h : t.val ≠ 0) : cfg0.fresh 5 t.val = false := by
  rw [Pipeline.Cfg.fresh_tab cfg0 5 freshAt rfl (by decide +kernel) t.val (Nat.le_of_lt t.isLt)]
  revert t; decide +kernel

/-- nor the second's. -/
theorem notFresh6 (t : Fin cfg0.N) (h : t.val ≠ 0) : cfg0.fresh 6 t.val = false := by
  rw [Pipeline.Cfg.fresh_tab cfg0 6 freshAt rfl (by decide +kernel) t.val (Nat.le_of_lt t.isLt)]
  revert t; decide +kernel

/-! ## What the buffers hold -/

/-- The four input blocks of a point. -/
def blocks (c : Dev nD) (t : Fin cfg0.N) : Fin 4 → Vec F S1000x1024 .f32
  | 0 => iblk m c 0 t
  | 1 => iblk m c 1 t
  | 2 => iblk m c 2 t
  | 3 => iblk m c 3 t

/-- The scratch column: the score row, transposed. -/
def col (c : Dev nD) : Vec F S10000x1 .f32 := k0_pay5 (iblk m c 4 t0_0)

/-- The first result's row after a point: the partial products of the points so far, added in order. -/
def acc (c : Dev nD) : (n : ℕ) → n < cfg0.N → Vec F S1x4096 .f32
  | 0, h => partRow (grid0.coords ⟨0, h⟩) (col m c) (blocks m c ⟨0, h⟩)
  | n + 1, h => addf (acc c n (Nat.lt_of_succ_lt h)) (partRow (grid0.coords ⟨n + 1, h⟩) (col m c) (blocks m c ⟨n + 1, h⟩))

/-- The scratch operand. -/
abbrev scr : Memref sig .tc .vmem S10000x1 .f32 := Memref.whole cc0_scratch0

/-- The invariant between points: at the start the scratch at anything, afterwards at the score column. -/
def inv (c : Dev nD) : ℕ → sProp 𝕄
  | 0 => Pipeline.ΦA spec0 c
  | _ + 1 => iprop(owns (c : Thread nD τ) scr fullShare (col m c) ∗ (∃ r, prngReg c r))

/-- What the launch gives at the start: the scratch at anything and the generator's register. -/
theorem start_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

/-- The pipeline's data: the arrays as the region finds them, each input's buffer at its block, the first result's at the
    running row, the second's at zeros. -/
def dats (_ : Fin 1) (c : Dev nD) : Dat τ (Elt F) Unit ℕ (UR sig nD τ) ℕ cfg0 c where
  A w := V m c (Pipeline.arrRef spec0 w)
  after w t := match w with
    | ⟨0, _⟩ => blocks m c t 0
    | ⟨1, _⟩ => blocks m c t 1
    | ⟨2, _⟩ => blocks m c t 2
    | ⟨3, _⟩ => blocks m c t 3
    | ⟨4, _⟩ => iblk m c 4 t
    | ⟨5, _⟩ => acc m c t.val t.isLt
    | ⟨6, _⟩ => k0_pay6 (F := F)
  Φ t := inv m c t.val
  q w := Pipeline.shareOf spec0 w
  owed _ := 0

theorem arrays_eq (c : Dev nD) (w : Fin cfg0.W) : (dats m 0 c).A w = V m c (Pipeline.arrRef spec0 w) := by
  dsimp only [dats]

/-- The score's block is the same at every point. -/
theorem block4_const (c : Dev nD) (t : Fin cfg0.N) (h : t.val = 0) : iblk m c 4 t = iblk m c 4 t0_0 := by
  obtain rfl : t = t0_0 := Fin.ext h
  rfl

theorem after_0 (c : Dev nD) (t : Fin cfg0.N) : (dats m 0 c).after 0 t = blocks m c t 0 := by dsimp only [dats]
theorem after_1 (c : Dev nD) (t : Fin cfg0.N) : (dats m 0 c).after 1 t = blocks m c t 1 := by dsimp only [dats]
theorem after_2 (c : Dev nD) (t : Fin cfg0.N) : (dats m 0 c).after 2 t = blocks m c t 2 := by dsimp only [dats]
theorem after_3 (c : Dev nD) (t : Fin cfg0.N) : (dats m 0 c).after 3 t = blocks m c t 3 := by dsimp only [dats]
theorem after_4 (c : Dev nD) (t : Fin cfg0.N) : (dats m 0 c).after 4 t = iblk m c 4 t := by dsimp only [dats]
theorem after_5 (c : Dev nD) (t : Fin cfg0.N) : (dats m 0 c).after 5 t = acc m c t.val t.isLt := by dsimp only [dats]
theorem after_6 (c : Dev nD) (t : Fin cfg0.N) : (dats m 0 c).after 6 t = k0_pay6 (F := F) := by dsimp only [dats]

theorem before_0 (c : Dev nD) (t : Fin cfg0.N) (d) : (dats m 0 c).before 0 t d = blocks m c t 0 :=
  before0_0_of m (dats m 0 c) (arrays_eq m c 0) (after_0 m c) t d
theorem before_1 (c : Dev nD) (t : Fin cfg0.N) (d) : (dats m 0 c).before 1 t d = blocks m c t 1 :=
  before0_1_of m (dats m 0 c) (arrays_eq m c 1) (after_1 m c) t d
theorem before_2 (c : Dev nD) (t : Fin cfg0.N) (d) : (dats m 0 c).before 2 t d = blocks m c t 2 :=
  before0_2_of m (dats m 0 c) (arrays_eq m c 2) (after_2 m c) t d
theorem before_3 (c : Dev nD) (t : Fin cfg0.N) (d) : (dats m 0 c).before 3 t d = blocks m c t 3 :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d

/-- A later point finds the first result's buffer as the point before left it, -/
theorem before_5 (c : Dev nD) (t : Fin cfg0.N) (h : t.val ≠ 0) (d) :
    (dats m 0 c).before 5 t d = acc m c (t.val - 1) (Nat.lt_of_le_of_lt (Nat.sub_le _ _) t.isLt) := by
  rw [Dat.before_out_traj _ 5 rfl (fun _ _ => rfl) (fun t _ hi _ => absurd hi (by rw [live5 t]; exact Bool.false_ne_true)) t.val t rfl d,
    if_neg (by rw [notFresh5 t h]; exact Bool.false_ne_true)]
  dsimp only [dats]

/-- and the second's at zeros. -/
theorem before_6 (c : Dev nD) (t : Fin cfg0.N) (h : t.val ≠ 0) (d) : (dats m 0 c).before 6 t d = k0_pay6 (F := F) := by
  rw [Dat.before_out_traj _ 6 rfl (fun _ _ => rfl) (fun t _ _ _ => rfl) t.val t rfl d,
    if_neg (by rw [notFresh6 t h]; exact Bool.false_ne_true)]
  dsimp only [dats]

/-- At the first point the running row is the first partial product. -/
theorem acc_first (c : Dev nD) (t : Fin cfg0.N) (h : t.val = 0) :
    acc m c t.val t.isLt = partRow (grid0.coords t) (col m c) (blocks m c t) := by
  obtain rfl : t = t0_0 := Fin.ext h
  rfl

/-- At a later point it is the row before plus that point's partial product. -/
theorem acc_later (c : Dev nD) (t : Fin cfg0.N) (h : t.val ≠ 0) :
    acc m c t.val t.isLt = addf (acc m c (t.val - 1) (Nat.lt_of_le_of_lt (Nat.sub_le _ _) t.isLt)) (partRow (grid0.coords t) (col m c) (blocks m c t)) := by
  obtain ⟨n, hn⟩ := t
  cases n with
  | zero => exact absurd rfl h
  | succ n => rfl

theorem inv_later (c : Dev nD) (n : ℕ) (h : n ≠ 0) :
    inv m c n = iprop(owns (c : Thread nD τ) scr fullShare (col m c) ∗ (∃ r, prngReg c r)) := by
  cases n with
  | zero => exact absurd rfl h
  | succ n => rfl

/-! ## The body at a point -/

/-- A window that is stored into, or staged whole, is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At a later point the second result's buffer is left at zeros, written back there or not. -/
theorem leaves_6 (c : Dev nD) (t : Fin cfg0.N) (h : t.val ≠ 0) :
    owns (c : Thread nD τ) (st0_6 t) fullShare (k0_pay6 (F := F)) ⊢ (dats m 0 c).leavesExact 6 t := by
  cases hf : (cfg0.win 6).flush t
  · rw [Dat.leavesExact_idle _ 6 t (idle6 t h) hf]
    simp only [before_6 m c t h]
    iintro H
    iexists (k0_pay6 (F := F)); iexact H
  · unfold Dat.leavesExact
    rw [idle6 t h, hf, after_6]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1000000 in
/-- The body at any point, from `body_first` or `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = inv m c (t.val + 1) from rfl, inv_later m c _ (Nat.succ_ne_zero _),
    show (dats m 0 c).Φ t.castSucc = inv m c t.val from rfl,
    leaves_live m c 0 t rfl, leaves_live m c 1 t rfl, leaves_live m c 2 t rfl, leaves_live m c 3 t rfl, leaves_live m c 4 t rfl,
    leaves_live m c 5 t (live5 t), after_0, after_1, after_2, after_3, after_4, after_5]
  by_cases hz : t.val = 0
  · obtain ⟨h0, h1, h2, h3, h4, h5, h6, h7, h8⟩ := conds_first t hz
    rw [show inv m c t.val = Pipeline.ΦA spec0 c from by rw [hz]; rfl, start_eq, leaves_live m c 6 t (live6 t hz), after_6, acc_first m c t hz]
    rw [show col m c = k0_pay5 (iblk m c 4 t) from by rw [block4_const m c t hz]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ h0 h1 h2 h3 h4 h5 h6 h7 h8 (blocks m c t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨h0, h1, h2, h3, h4, h5, h6, h7, h8⟩ := conds_later t hz
    rw [inv_later m c _ hz, acc_later m c t hz]
    simp only [before_5 m c t hz, before_6 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ h0 h1 h2 h3 h4 h5 h6 h7 h8 (blocks m c t) (iblk m c 4 t) _ _ (col m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t hz); iexact H6

/-- The body table's row at a point is the body there. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch's resources are the invariant at the start, -/
theorem inv_in (c : Dev nD) : Pipeline.ΦA spec0 c ⊢ (dats m 0 c).Φ 0 := .rfl

/-- and the invariant at the end gives them back. -/
theorem inv_out (c : Dev nD) : (dats m 0 c).Φ (Fin.last cfg0.N) ⊢ Pipeline.ΦA spec0 c := by
  rw [show (dats m 0 c).Φ (Fin.last cfg0.N) = inv m c cfg0.N from rfl, inv_later m c _ (by rw [show cfg0.N = 10 from N_0]; decide), start_eq]
  iintro ⟨HS, Hg⟩
  isplitl [HS]
  · iexists _; iexact HS
  iexact Hg

/-! ## The run -/

set_option backward.isDefEq.respectTransparency.types false in
/-- Every fair run of @main ends, with the pipeline's arrays and every other buffer at what the data and the two host
    reshapes say, and every semaphore counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (hbody := fun c => (obligation m c).loose) (hq := fun _ _ _ => rfl) (howed := fun _ _ => rfl) (V₀ := V0 m) (opss := [hostOps1])
    sfx_sub sfx_fresh sfx_keeps (hmain m Variants.none) (arrays_eq m) (inv_in m) (inv_out m) _ (fun _ h => h)

end Cert.KernelIdeal.MatVec

end
-- ==== Proof.Value.lean ====
/-
  What the kernel computes over the extended reals: the running row after the last point is, column by column, the
  contraction of the reference's matrix product, and the second result is zero.
-/
module

public import proofs.«01_k».proof.Proof.Data
public import Idealize.ShloMosaic.Lib.Pipeline.ValueKit.Tiles
public import Idealize.ShloMosaic.Lib.Pointwise
public import Idealize.ShloMosaic.Lib.StableHlo.Run
public import Idealize.ShloMosaic.Lib.Claim

@[expose] public section

set_option maxRecDepth 16384

noncomputable section

namespace Cert.KernelIdeal.MatVec

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The point's segment starts at 1000 times the point. -/
theorem segment_off : ∀ t : Fin cfg0.N, k0_off1 (grid0.coords t) 0 = 1000 * t.val ∧ k0_off1 (grid0.coords t) 1 = 0 := by decide +kernel

/-- The segment, entry by entry. -/
theorem segment_apply (t : Fin cfg0.N) (s : Vec Ideal S10000x1 .f32) (r : Fin 1000) (j : Fin 10000) (hj : j.val = 1000 * t.val + r.val) :
    segment (grid0.coords t) s (ix2 (n0 := 1000) (n1 := 1) r 0) = s (ix2 (n0 := 10000) (n1 := 1) j 0) := by
  refine View.ld_unit_apply_of _ _ _ _ _ _ fun a => ?_
  obtain ⟨e0, e1⟩ := segment_off t
  match a with
  | ⟨0, _⟩ => show j.val = k0_off1 (grid0.coords t) 0 + r.val; rw [e0, hj]
  | ⟨1, _⟩ => show 0 = k0_off1 (grid0.coords t) 1 + 0; rw [e1]

/-- One quarter's partial product at a column: the sum of the block's column times the segment. -/
theorem pay7_apply (s : Vec Ideal S1000x1 .f32) (x : Vec Ideal S1000x1024 .f32) (l : Fin 1024) :
    k0_pay7 s x (ix2 (n0 := 1) (n1 := 1024) 0 l)
      = ∑ r : Fin 1000, x (ix2 (n0 := 1000) (n1 := 1024) r l) * s (ix2 (n0 := 1000) (n1 := 1) r 0) := by
  pointwise [k0_pay7]

/-- The argument the kernel reads as a matrix. -/
abbrev matrix (c : Dev nD) : Vec Ideal S4096x10000 .f32 := m ((c.tc : Thread nD τ).loc main_arg3)

/-- The argument the kernel reads as a column. -/
abbrev column (c : Dev nD) : Vec Ideal S10000x1 .f32 := m ((c.tc : Thread nD τ).loc main_arg7)

/-- At the region's entry the first transposed buffer holds the matrix with its axes exchanged. -/
theorem entry_matrix (c : Dev nD) (j : Fin 10000) (b : Fin 4096) :
    (V m c main_v0 : Vec Ideal S10000x4096 .f32) (ix2 (n0 := 10000) (n1 := 4096) j b) = matrix m c (ix2 (n0 := 4096) (n1 := 10000) b j) := by
  have h : (V m c main_v0 : Vec Ideal S10000x4096 .f32) = transpose S10000x4096 [1, 0] (matrix m c) transposes_S4096x10000_S10000x4096_1_0 := by
    show StableHlo.after hostOps0 _ _ = _
    unfold hostOps0
    after_results
  rw [h]
  pointwise

/-- At the region's entry the second transposed buffer holds the column as a row. -/
theorem entry_column (c : Dev nD) (j : Fin 10000) :
    (V m c main_v1 : Vec Ideal S1x10000 .f32) (ix2 (n0 := 1) (n1 := 10000) 0 j) = column m c (ix2 (n0 := 10000) (n1 := 1) j 0) := by
  have h : (V m c main_v1 : Vec Ideal S1x10000 .f32) = transpose S1x10000 [1, 0] (column m c) transposes_S10000x1_S1x10000_1_0 := by
    show StableHlo.after hostOps0 _ _ = _
    unfold hostOps0
    after_results
  rw [h]
  pointwise

/-- Where the four block windows sit: block row `t`, block column the window's number. -/
theorem index_blocks : ∀ t : Fin cfg0.N,
    (win0_0.index t 0 = t.val ∧ win0_0.index t 1 = 0) ∧ (win0_1.index t 0 = t.val ∧ win0_1.index t 1 = 1)
      ∧ (win0_2.index t 0 = t.val ∧ win0_2.index t 1 = 2) ∧ (win0_3.index t 0 = t.val ∧ win0_3.index t 1 = 3) := by decide +kernel

/-- The block of window `k` at point `t` holds rows `1000 t …` and columns `1024 k …` of the transposed matrix. -/
theorem blocks_apply (c : Dev nD) (t : Fin cfg0.N) (k : Fin 4) (r : Fin 1000) (l : Fin 1024) (j : Fin 10000) (b : Fin 4096)
    (hj : j.val = 1000 * t.val + r.val) (hb : b.val = 1024 * k.val + l.val) :
    blocks m c t k (ix2 (n0 := 1000) (n1 := 1024) r l) = matrix m c (ix2 (n0 := 4096) (n1 := 10000) b j) := by
  rw [← entry_matrix]
  obtain ⟨⟨a0, a1⟩, ⟨b0, b1⟩, ⟨c0, c1⟩, d0, d1⟩ := index_blocks t
  match k, hb with
  | 0, hb =>
    refine congrArg (V m c main_v0 : Vec Ideal S10000x4096 .f32) (funext fun a => Fin.ext ?_)
    match a with
    | ⟨0, _⟩ => show win0_0.index t 0 * 1000 + 1 * r.val = j.val; omega
    | ⟨1, _⟩ => show win0_0.index t 1 * 1024 + 1 * l.val = b.val; rw [a1, hb, one_mul, mul_comm]; rfl
  | 1, hb =>
    refine congrArg (V m c main_v0 : Vec Ideal S10000x4096 .f32) (funext fun a => Fin.ext ?_)
    match a with
    | ⟨0, _⟩ => show win0_1.index t 0 * 1000 + 1 * r.val = j.val; omega
    | ⟨1, _⟩ => show win0_1.index t 1 * 1024 + 1 * l.val = b.val; rw [b1, hb]; show 1 * 1024 + 1 * l.val = 1024 * 1 + l.val; omega
  | 2, hb =>
    refine congrArg (V m c main_v0 : Vec Ideal S10000x4096 .f32) (funext fun a => Fin.ext ?_)
    match a with
    | ⟨0, _⟩ => show win0_2.index t 0 * 1000 + 1 * r.val = j.val; omega
    | ⟨1, _⟩ => show win0_2.index t 1 * 1024 + 1 * l.val = b.val; rw [c1, hb, one_mul, mul_comm]; rfl
  | 3, hb =>
    refine congrArg (V m c main_v0 : Vec Ideal S10000x4096 .f32) (funext fun a => Fin.ext ?_)
    match a with
    | ⟨0, _⟩ => show win0_3.index t 0 * 1000 + 1 * r.val = j.val; omega
    | ⟨1, _⟩ => show win0_3.index t 1 * 1024 + 1 * l.val = b.val; rw [d1, hb, one_mul, mul_comm]; rfl

/-- The scratch column is the score. -/
theorem col_apply (c : Dev nD) (j : Fin 10000) :
    col m c (ix2 (n0 := 10000) (n1 := 1) j 0) = column m c (ix2 (n0 := 10000) (n1 := 1) j 0) := by
  rw [← entry_column]
  unfold col
  pointwise [k0_pay5]
  refine congrArg (V m c main_v1 : Vec Ideal S1x10000 .f32) (funext fun a => Fin.ext ?_)
  match a with
  | ⟨0, _⟩ => rfl
  | ⟨1, _⟩ => show win0_4.index t0_0 1 * 10000 + 1 * j.val = j.val; rw [show win0_4.index t0_0 1 = 0 from by decide +kernel]; omega

/-- The running row is the sum of the partial products so far. -/
theorem acc_eq_sum (c : Dev nD) (y : S1x4096.Idx) : ∀ (n : ℕ) (h : n < cfg0.N),
    acc m c n h y = ∑ t : Fin (n + 1), partRow (grid0.coords ⟨t.val, Nat.lt_of_lt_of_le t.isLt h⟩) (col m c) (blocks m c ⟨t.val, Nat.lt_of_lt_of_le t.isLt h⟩) y
  | 0, h => by rw [Fin.sum_univ_one]; rfl
  | n + 1, h => by
    rw [Fin.sum_univ_castSucc]
    exact congrArg (· + partRow (grid0.coords ⟨n + 1, h⟩) (col m c) (blocks m c ⟨n + 1, h⟩) y) (acc_eq_sum c y n (Nat.lt_of_succ_lt h))

/-- The last point. -/
theorem nine_lt : 9 < cfg0.N := by rw [show cfg0.N = 10 from N_0]; decide

/-- After the last point, column `b` of the row is the `b`-th entry of the matrix product. -/
theorem acc_last (c : Dev nD) (b : Fin 4096) :
    acc m c 9 nine_lt (ix2 (n0 := 1) (n1 := 4096) 0 b)
      = ∑ j : Fin 10000, matrix m c (ix2 (n0 := 4096) (n1 := 10000) b j) * column m c (ix2 (n0 := 10000) (n1 := 1) j 0) := by
  rw [acc_eq_sum, ← Fin.sum_mul_add_fin 10 1000 _ rfl]
  refine Finset.sum_congr rfl fun t _ => ?_
  have hb := b.isLt
  have ht := t.isLt
  show k0_pay7 (segment _ (col m c)) (blocks m c _ ⟨b.val / 1024, _⟩) (ix2 (n0 := 1) (n1 := 1024) 0 ⟨b.val % 1024, _⟩) = _
  rw [pay7_apply]
  refine Finset.sum_congr rfl fun r _ => ?_
  have hr := r.isLt
  have hj : t.val * 1000 + r.val < 10000 := by omega
  rw [blocks_apply m c _ _ r _ ⟨t.val * 1000 + r.val, hj⟩ b (by show t.val * 1000 + r.val = 1000 * t.val + r.val; omega)
      (by show b.val = 1024 * (b.val / 1024) + b.val % 1024; omega),
    segment_apply _ _ r ⟨t.val * 1000 + r.val, hj⟩ (by show t.val * 1000 + r.val = 1000 * t.val + r.val; omega), col_apply]

end Cert.KernelIdeal.MatVec

end
-- ==== Proof.Result.lean ====
/-
  What the run leaves: the two result arrays, the two reshaped results, and their agreement with the reference's.
-/
module

public import proofs.«01_k».proof.Proof.Value
public import proofs.«01_k».proof.Proof.Gen.ReferenceIdeal
public import Idealize.ShloMosaic.Lib.Pipeline.Value

@[expose] public section

set_option maxRecDepth 16384

noncomputable section

namespace Cert.KernelIdeal.MatVec

open Cert.KernelIdeal Cert.KernelIdeal.Gen
open Idealize.ShloMosaic Idealize.ShloMosaic.TcCoe Idealize.ShloMosaic.Tactic
open Idealize.SL Idealize.SL.Sem

section Run

variable {F : FTy → Type} [FloatOps F]
variable (m : (ℓ : Loc nD τ sig) → Buf (Elt F) ℓ) (ρ : Dev nD → PrngReg)

/-! ## The result arrays -/

/-- A result window writes back at the last point only. -/
theorem last_of_flush {t : Fin cfg0.N} (h : t.val % 10 = 9) : t = t0_9 := by
  have hN : cfg0.N = 10 := N_0
  have := t.isLt
  exact Fin.ext (by show t.val = 9; omega)

/-- The first result's array ends holding the running row after the last point. -/
theorem final_5 (c : Dev nD) : (dats m 0 c).arrAt 5 cfg0.N = (acc m c 9 nine_lt : Vec F S1x4096 .f32) := by
  refine (dats m 0 c).arrAt_eq_of_cover 5 (acc m c 9 nine_lt : Vec F S1x4096 .f32) (fun t hf => ?_) fun i =>
    ⟨t0_9, (flush0_5 t0_9).mpr rfl, ?_⟩
  · obtain rfl := last_of_flush ((flush0_5 t).mp hf)
    show (cfg0.win 5).cut (grid0.coords t0_9) ((dats m 0 c).after 5 t0_9) = _
    rw [after_5]
    have hz' : (fun a => win0_5.index t0_9 a * main_v2_0.ty.shape.size a) = fun _ => 0 := funext fun a => by fin_cases a <;> decide
    exact (Memref.read_access_unit_zero (Elt F) main_v2_0 hz' (fun a => by rw [congrFun hz' a]; simp) (acc m c 9 nine_lt)).symm
  · show i ∈ ((View.whole main_v2_0).slice (win0_5.rect t0_9)).set
    rw [View.set_slice_whole, Rect.mem_set_unit]
    have e : ∀ a : Fin 2, win0_5.index t0_9 a * win0_5.size a = 0 ∧ win0_5.xsize (grid0.coords t0_9) a = S1x4096.size a := by decide +kernel
    intro a
    show win0_5.index t0_9 a * win0_5.size a ≤ (i a : Nat) ∧ (i a : Nat) < win0_5.index t0_9 a * win0_5.size a + win0_5.xsize (grid0.coords t0_9) a
    rw [(e a).1, (e a).2, Nat.zero_add]
    exact ⟨Nat.zero_le _, (i a).isLt⟩

/-- The second result's array ends holding zeros. -/
theorem final_6 (c : Dev nD) : (dats m 0 c).arrAt 6 cfg0.N = (k0_pay6 (F := F) : Vec F S1x4096 .f32) := by
  refine (dats m 0 c).arrAt_eq_of_cover 6 (k0_pay6 (F := F) : Vec F S1x4096 .f32) (fun t hf => ?_) fun i =>
    ⟨t0_9, (flush0_6 t0_9).mpr rfl, ?_⟩
  · obtain rfl := last_of_flush ((flush0_6 t).mp hf)
    show (cfg0.win 6).cut (grid0.coords t0_9) ((dats m 0 c).after 6 t0_9) = _
    rw [after_6]
    have hz' : (fun a => win0_6.index t0_9 a * main_v2_1.ty.shape.size a) = fun _ => 0 := funext fun a => by fin_cases a <;> decide
    exact (Memref.read_access_unit_zero (Elt F) main_v2_1 hz' (fun a => by rw [congrFun hz' a]; simp) k0_pay6).symm
  · show i ∈ ((View.whole main_v2_1).slice (win0_6.rect t0_9)).set
    rw [View.set_slice_whole, Rect.mem_set_unit]
    have e : ∀ a : Fin 2, win0_6.index t0_9 a * win0_6.size a = 0 ∧ win0_6.xsize (grid0.coords t0_9) a = S1x4096.size a := by decide +kernel
    intro a
    show win0_6.index t0_9 a * win0_6.size a ≤ (i a : Nat) ∧ (i a : Nat) < win0_6.index t0_9 a * win0_6.size a + win0_6.xsize (grid0.coords t0_9) a
    rw [(e a).1, (e a).2, Nat.zero_add]
    exact ⟨Nat.zero_le _, (i a).isLt⟩

/-! ## The results -/

/-- The first result is the running row after the last point, as a column. -/
theorem tail_v3 (c : Dev nD) : Pipeline.afterTail₀ cfgs (dats m) 0 (V0 m) [hostOps1] c main_v3
    = (shapeCast S4096x1 (acc m c 9 nine_lt) shapeCasts_S1x4096_S4096x1 : Vec F S4096x1 .f32) := by
  rw [← final_5, ← (dats m 0 c).withArrays_arrAt sharedIn0 (V0 m c) (arrays_eq m c)]
  unfold Pipeline.afterTail₀
  show StableHlo.after hostOps1 _ _ = _
  unfold hostOps1
  after_results
  rfl

/-- The second result is the zero row, as a column. -/
theorem tail_v4 (c : Dev nD) : Pipeline.afterTail₀ cfgs (dats m) 0 (V0 m) [hostOps1] c main_v4
    = (shapeCast S4096x1 k0_pay6 shapeCasts_S1x4096_S4096x1 : Vec F S4096x1 .f32) := by
  rw [← final_6 m c, ← (dats m 0 c).withArrays_arrAt sharedIn0 (V0 m c) (arrays_eq m c)]
  unfold Pipeline.afterTail₀
  show StableHlo.after hostOps1 _ _ = _
  unfold hostOps1
  after_results
  rfl

/-- The run, read: the two results. -/
theorem run_results : θ_run defs (onTc (τ := τ) (main (F := F))) (s₀ m ρ) fun r => ∀ c : Dev nD,
    r.2.mem ((c.tc : Thread nD τ).loc main_v3) = (shapeCast S4096x1 (acc m c 9 nine_lt) shapeCasts_S1x4096_S4096x1 : Vec F S4096x1 .f32)
    ∧ r.2.mem ((c.tc : Thread nD τ).loc main_v4) = (shapeCast S4096x1 k0_pay6 shapeCasts_S1x4096_S4096x1 : Vec F S4096x1 .f32) :=
  (θ_run defs _ _).mono (fun _ h c =>
    ⟨((h.1 c).2 main_v3 (Pipeline.mem_restRefs_of main_v3 (by decide) (by decide))).trans (tail_v3 m c),
      ((h.1 c).2 main_v4 (Pipeline.mem_restRefs_of main_v4 (by decide) (by decide))).trans (tail_v4 m c)⟩) (run_all m ρ)

/-- The run's frame, for any floats: the twelve arguments unchanged and every semaphore at zero. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11))
    ∧ r.2.sem = fun _ => 0 :=
  θ_run_and (frame_of m ρ (dats m) (arrays_eq m) ((θ_run defs _ _).mono (fun _ h => h.1) (run_all m ρ)))
    ((θ_run defs _ _).mono (fun _ h => h.2) (run_all m ρ))

end Run

/-! ## The reference's values -/

variable (m : (ℓ : Loc nD τ sig) → Buf (Elt Ideal) ℓ)

/-- The first result is the reference's matrix product. -/
theorem result_v3 (c : Dev nD) : (shapeCast S4096x1 (acc m c 9 nine_lt) shapeCasts_S1x4096_S4096x1 : Vec Ideal S4096x1 .f32)
    = Host.dotGeneral (F := Ideal) (φ₁ := .f32) (φ₂ := .f32) Cert.ReferenceIdeal.dot_S4096x10000_S10000x1_S4096x1_1_0_0_1_n_n none (matrix m c) (column m c) := by
  funext y
  idx_vars y
  obtain rfl : y1 = 0 := Subsingleton.elim _ _
  pointwise [acc_last]

/-- The second result is the reference's column of zeros. -/
theorem result_v4 : (shapeCast S4096x1 (k0_pay6 (F := Ideal)) shapeCasts_S1x4096_S4096x1 : Vec Ideal S4096x1 .f32)
    = broadcastInDim Cert.ReferenceIdeal.S4096x1 ![] Cert.ReferenceIdeal.Facts₀.bcast_S_S4096x1 (constant (F := Ideal) Cert.ReferenceIdeal.S_ .f32 0x00000000#32) := by
  funext y
  idx_vars y
  pointwise [k0_pay6]

end Cert.KernelIdeal.MatVec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- From every start the idealized kernel runs to its end, its arguments unchanged and every semaphore at zero. -/
theorem frame_ideal : Cert.quiescent_KernelIdeal (hKernelIdeal := Cert.KernelIdeal.Gen.facts) :=
  fun m g _ => Cert.KernelIdeal.MatVec.run_frame m g

/-- The kernel's body table is the idealized kernel's, for any floats: the idealization rewrote nothing. -/
theorem bodies_eq {F : FTy → Type} [FloatOps F] : Cert.Kernel.defs₀ (F := F) = Cert.KernelIdeal.defs₀ (F := F) := by
  refine congrArg (Defs.onTc (nD := Cert.Kernel.nD) (τ := Cert.Kernel.τ)) (funext fun l => funext fun a => ?_)
  match l, a with
  | 0, (t, s) => rfl

/-- So is the table with the pipeline's own labels. -/
theorem tables_eq {F : FTy → Type} [FloatOps F] : Cert.Kernel.defs (F := F) = Cert.KernelIdeal.defs (F := F) :=
  congrArg (Pipeline.defs Cert.Kernel.pcfgs) bodies_eq

/-- The kernel itself, over machine words, has the same frame: its program is the one whose frame was proved for any floats. -/
theorem frame_kernel : Cert.quiescent_Kernel (hKernel := Cert.Kernel.Gen.facts) := by
  intro m g _
  rw [tables_eq]
  exact Cert.KernelIdeal.MatVec.run_frame (F := Bits) m g

/-- The reference, which has no semaphores, runs to its end with its arguments unchanged too. -/
theorem frame_reference : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems rfl r.2⟩)
    (Cert.ReferenceIdeal.Value.run m g)

/-- From starts agreeing on the arguments the idealized kernel and the reference leave the same two results. -/
theorem same_results : Cert.algebraic_KernelIdeal_ReferenceIdeal (hKernelIdeal := Cert.KernelIdeal.Gen.facts)
    (hReferenceIdeal := Cert.ReferenceIdeal.Gen.facts) := by
  intro m g m' g' hpre hagree
  refine ⟨_, _, (θ_run Cert.KernelIdeal.defs _ _).mono (fun r h c => ⟨(h.1 c).1, (h.1 c).2, h.2.1 c⟩)
      (θ_run_and (Cert.KernelIdeal.MatVec.run_results m g) (frame_ideal m g hpre)),
    (θ_run Cert.ReferenceIdeal.defs _ _).mono (fun r h c => ⟨(h c).1.trans ?_, (h c).2.1.trans ?_, (h c).2.2⟩)
      (Cert.ReferenceIdeal.Value.run m' g')⟩
  · obtain ⟨-, -, -, h3, -, -, -, h7, -⟩ := hagree c
    rw [h3, h7]
    exact (Cert.KernelIdeal.MatVec.result_v3 m c).symm
  · exact Cert.KernelIdeal.MatVec.result_v4.symm

/-- The five claims together. -/
theorem claim : Cert.Claim := ⟨Cert.Kernel.Gen.facts, Cert.KernelIdeal.Gen.facts, Cert.ReferenceIdeal.Gen.facts,
  frame_kernel, frame_ideal, frame_reference, trivial, same_results⟩

end Cert.Proof

end
